-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16x2048x2048 : Shape := ⟨3, ![16, 2048, 2048]⟩
abbrev S8x2048x2048 : Shape := ⟨3, ![8, 2048, 2048]⟩
abbrev S1x1024x2048 : Shape := ⟨3, ![1, 1024, 2048]⟩

abbrev nBuf : Space → Nat
  | .hbm => 2
  | .vmem => 4
  | .smem => 0
  | _ => 0

abbrev bufTy : (tb : Table) → Fin (tcTables nBuf tb) → BufTy
  | .hbm, ⟨0, _⟩ => ⟨S16x2048x2048, .f32⟩
  | .hbm, ⟨1, _⟩ => ⟨S8x2048x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .f32⟩
  | .local _ .vmem, ⟨3, _⟩ => ⟨S1x1024x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference.lean ====
abbrev S16x2048x2048 : Shape := ⟨3, ![16, 2048, 2048]⟩
abbrev S8 : Shape := ⟨1, ![8]⟩
abbrev S_ : Shape := ⟨0, ![]⟩
abbrev S8x1 : Shape := ⟨2, ![8, 1]⟩
abbrev S1 : Shape := ⟨1, ![1]⟩
abbrev S1x1 : Shape := ⟨2, ![1, 1]⟩
abbrev S8x2048x2048 : Shape := ⟨3, ![8, 2048, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S8, .i32⟩
  | .hbm, ⟨2, _⟩ => ⟨S_, .i32⟩
  | .hbm, ⟨3, _⟩ => ⟨S8, .i32⟩
  | .hbm, ⟨4, _⟩ => ⟨S8, .i1⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S8, .i32⟩
  | .hbm, ⟨9, _⟩ => ⟨S8x1, .i32⟩
  | .hbm, ⟨10, _⟩ => ⟨S1, .i32⟩
  | .hbm, ⟨11, _⟩ => ⟨S_, .i32⟩
  | .hbm, ⟨12, _⟩ => ⟨S8x1, .i32⟩
  | .hbm, ⟨13, _⟩ => ⟨S8x1, .i1⟩
  | .hbm, ⟨14, _⟩ => ⟨S1x1, .i32⟩
  | .hbm, ⟨15, _⟩ => ⟨S8x1, .i32⟩
  | .hbm, ⟨16, _⟩ => ⟨S8x1, .i1⟩
  | .hbm, ⟨17, _⟩ => ⟨S8x1, .i1⟩
  | .hbm, ⟨18, _⟩ => ⟨S_, .i1⟩
  | .hbm, ⟨19, _⟩ => ⟨S8, .i1⟩
  | .hbm, ⟨20, _⟩ => ⟨S8x2048x2048, .f32⟩
  | .hbm, ⟨21, _⟩ => ⟨S8x2048x2048, .i1⟩
  | .hbm, ⟨22, _⟩ => ⟨S_, .f32⟩
  | .hbm, ⟨23, _⟩ => ⟨S8x2048x2048, .f32⟩
  | .hbm, ⟨24, _⟩ => ⟨S8x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Slice.lean ====
/-
  The function that both programs compute, stated once and independently of either: of sixteen matrices, every second
  one. Entry `(k, r, c)` of the result is entry `(2k, r, c)` of the argument.
-/
module

public import Idealize.ShloMosaic.Lib.ValueIdxCore
public import Idealize.ShloMosaic.Lib.ReduceAll

@[expose] public section

namespace Cert.Slice

open Idealize.ShloMosaic

/-- The argument's shape: sixteen matrices of 2048 by 2048. -/
abbrev SIn : Shape := ⟨3, ![16, 2048, 2048]⟩
/-- The result's shape: eight such matrices. -/
abbrev SOut : Shape := ⟨3, ![8, 2048, 2048]⟩

/-- Where result entry `(k, r, c)` comes from: argument entry `(2k, r, c)`. -/
def source (i : SOut.Idx) : SIn.Idx := fun a => match a with
  | ⟨0, _⟩ => ⟨2 * (i 0).val, by have h : (i 0).val < 8 := (i 0).isLt; show 2 * (i 0).val < 16; omega⟩
  | ⟨1, _⟩ => ⟨(i 1).val, (i 1).isLt⟩
  | ⟨2, _⟩ => ⟨(i 2).val, (i 2).isLt⟩

/-- Every second matrix of the argument. -/
def everySecond {α : Type} (x : SIn.Idx → α) : SOut.Idx → α := fun i => x (source i)

/-- An argument index whose three coordinates are `2k`, `r` and `c` is the source of `(k, r, c)`. -/
theorem eq_source {j : SIn.Idx} {i : SOut.Idx} (h0 : (j 0).val = 2 * (i 0).val) (h1 : (j 1).val = (i 1).val)
    (h2 : (j 2).val = (i 2).val) : j = source i := by
  funext a
  refine Fin.ext ?_
  match a with
  | ⟨0, _⟩ => exact h0
  | ⟨1, _⟩ => exact h1
  | ⟨2, _⟩ => exact h2

end Cert.Slice

end
-- ==== Proof.KernelValue.lean ====
/-
  What the pipelined kernel leaves in its result array: every second matrix of its argument.

  The grid has a point for each half of each result matrix. At point (k, h) the input window is on rows
  1024·h … 1024·h + 1023 of argument matrix 2k, the output window on the same rows of result matrix k, and the body
  copies one to the other. So each block that is written back is the block of ONE function of the whole argument
  (`flushed_eq`), and the sixteen blocks tile the result (`cover`).
-/
module

public import proofs.«01_k».proof.Proof.Gen.Kernel.Value
public import proofs.«01_k».proof.Proof.Slice

@[expose] public section

noncomputable section

namespace Cert.Kernel.SliceValue

open Cert.Kernel Cert.Kernel.Gen Cert.Slice Idealize.ShloMosaic Idealize.ShloMosaic.TcCoe Idealize.SL.Sem
open Idealize.ShloMosaic.Pipeline (Dat Window)

variable {F : FTy → Type} [FloatOps F]
variable (m : (ℓ : Loc nD τ sig) → Buf (Elt F) ℓ) (ρ : Dev nD → PrngReg)

/-- Every second matrix of device `c`'s argument, as contents of its result array. -/
abbrev expected (c : Dev nD) : Buf (Elt F) ((c : Thread nD τ).loc main_v0) :=
  everySecond (m ((c : Thread nD τ).loc main_arg0))

/-- The two index maps, compared: at every grid point the input block is that of matrix `2k` where the output block is
    that of matrix `k`, on the same rows and on all columns. -/
theorem index_eq (t : Fin cfg0.N) : win0_0.index t 0 = 2 * win0_1.index t 0 ∧ win0_0.index t 1 = win0_1.index t 1
    ∧ win0_0.index t 2 = win0_1.index t 2 :=
  (by decide +kernel : ∀ t : Fin grid0.N, win0_0.index t 0 = 2 * win0_1.index t 0 ∧ win0_0.index t 1 = win0_1.index t 1
    ∧ win0_0.index t 2 = win0_1.index t 2) t

/-- So an element of the input block sits in the argument at the source of where the same element of the output block
    sits in the result. -/
theorem emb_eq_source (t : Fin cfg0.N) (y : S1x1024x2048.Idx) : (win0_0.rect t).emb y = source ((win0_1.rect t).emb y) := by
  obtain ⟨h0, h1, h2⟩ := index_eq t
  have y0 : (y 0).val < 1 := (y 0).isLt
  refine eq_source ?_ ?_ ?_
  · rw [Window.rect_emb_val win0_0, Window.rect_emb_val win0_1, h0]
    show 2 * win0_1.index t 0 * 1 + (y 0).val = 2 * (win0_1.index t 0 * 1 + (y 0).val)
    omega
  · rw [Window.rect_emb_val win0_0, Window.rect_emb_val win0_1, h1]
  · rw [Window.rect_emb_val win0_0, Window.rect_emb_val win0_1, h2]

theorem origin : (![0, 0, 0] : Fin 3 → Nat) = fun _ => 0 := funext fun a => by fin_cases a <;> rfl

/-- The block that point `t` writes back is its block of `expected`: the body stores, over the whole output block, the
    whole input block as loaded. -/
theorem flushed_eq (c : Dev nD) (t : Fin cfg0.N) :
    (dats m 0 c).flushed 1 t = (win0_1.blk t).view.read (Elt F) (expected m c) := by
  rw [Value.flushed1]
  unfold out0_1
  rw [View.canon_unit_zero origin, View.ld_unit_zero origin]
  funext y
  show m ((c : Thread nD τ).loc main_arg0) ((win0_0.rect t).emb y)
    = m ((c : Thread nD τ).loc main_arg0) (source ((win0_1.rect t).emb y))
  rw [emb_eq_source]

/-- Every pair of a result matrix and a half of its rows is the output block of some grid point. -/
theorem index_onto (k : Fin 8) (h : Fin 2) :
    ∃ t : Fin cfg0.N, win0_1.index t 0 = k.val ∧ win0_1.index t 1 = h.val ∧ win0_1.index t 2 = 0 :=
  (by decide +kernel : ∀ (k : Fin 8) (h : Fin 2), ∃ t : Fin grid0.N,
    win0_1.index t 0 = k.val ∧ win0_1.index t 1 = h.val ∧ win0_1.index t 2 = 0) k h

/-- Every index of the result is in the block of some point, and every point writes its block back. -/
theorem cover (i : S8x2048x2048.Idx) :
    ∃ t : Fin cfg0.N, (cfg0.win 1).flush t = true ∧ i ∈ ((cfg0.win 1).blk t).view.set := by
  have i0 : (i 0).val < 8 := (i 0).isLt
  have i1 : (i 1).val < 2048 := (i 1).isLt
  have i2 : (i 2).val < 2048 := (i 2).isLt
  obtain ⟨t, h0, h1, h2⟩ := index_onto ⟨(i 0).val, i0⟩ ⟨(i 1).val / 1024, by omega⟩
  refine ⟨t, flush0_1 t, ?_⟩
  show i ∈ ((View.whole main_v0).slice (win0_1.rect t)).set
  rw [View.set_slice_whole, Rect.mem_set_unit]
  intro a
  match a with
  | ⟨0, _⟩ =>
    show win0_1.index t 0 * 1 ≤ (i 0).val ∧ (i 0).val < win0_1.index t 0 * 1 + 1
    rw [h0]; dsimp only; omega
  | ⟨1, _⟩ =>
    show win0_1.index t 1 * 1024 ≤ (i 1).val ∧ (i 1).val < win0_1.index t 1 * 1024 + 1024
    rw [h1]; dsimp only; omega
  | ⟨2, _⟩ =>
    show win0_1.index t 2 * 2048 ≤ (i 2).val ∧ (i 2).val < win0_1.index t 2 * 2048 + 2048
    rw [h2]; omega

/-- The run of the kernel, for any float values and from any memory: its result array ends at every second matrix of its
    argument, and the argument ends unchanged. -/
theorem run : θ_run defs (onTc (τ := τ) (main (F := F))) ⟨m, fun _ => 0, ρ⟩ fun r => ∀ c : Dev nD,
      r.2.mem ((c : Thread nD τ).loc main_v0) = expected m c
      ∧ r.2.mem ((c : Thread nD τ).loc main_arg0) = m ((c : Thread nD τ).loc main_arg0) :=
  (θ_run defs _ _).mono (fun _ h c => ⟨(h c).1.trans
      ((dats m 0 c).arrAt_eq_of_cover 1 (expected m c) (fun t _ => flushed_eq m c t) cover), (h c).2⟩)
    (Value.run_blocks m ρ)

end Cert.Kernel.SliceValue

end
-- ==== Proof.Take.lean ====
/-
  The gather in `jnp.take(w, [0, 2, …, 14], axis=0)`, read for any operand: at start indices of which the `k`-th is
  `2k`, it takes matrix `2k` of the operand whole as matrix `k` of the result (`gather_eq`).
-/
module

public import proofs.«01_k».proof.Proof.Slice
public import Idealize.ShloMosaic.Lib.Pipeline.Value

@[expose] public section

noncomputable section

namespace Cert.Slice

open Idealize.ShloMosaic

/-- The shape of the table of indices, -/
abbrev STab : Shape := ⟨1, ![8]⟩
/-- and of the table as the gather's start indices: one index per row. -/
abbrev SStart : Shape := ⟨2, ![8, 1]⟩

/-- The gather's dimension numbers: a start index names a matrix (axis 0, of which one is taken), the other two axes
    are taken whole. -/
abbrev takeDims (wf : GatherDims.WF SIn SStart SOut [1, 2] [0] [] [0] [] 1 ![1, 2048, 2048]) : GatherDims SIn SStart SOut where
  offsetDims := [1, 2]
  collapsedSliceDims := [0]
  operandBatchingDims := []
  startIndicesBatchingDims := []
  startIndexMap := [0]
  indexVectorDim := 1
  sliceSizes := ![1, 2048, 2048]
  wf := wf

/-- The start index of result matrix `k`: row `k` of the start indices. -/
abbrev startOf (i : SOut.Idx) : SStart.Idx := fun a => match a with
  | ⟨0, _⟩ => ⟨(i 0).val, (i 0).isLt⟩
  | ⟨1, _⟩ => ⟨0, Nat.one_pos⟩

variable {wf : GatherDims.WF SIn SStart SOut [1, 2] [0] [] [0] [] 1 ![1, 2048, 2048]}

theorem siIdx_eq (i : SOut.Idx) (c : Fin (takeDims wf).startIndexMap.length) : (takeDims wf).siIdx i c = startOf i := by
  funext b
  refine Fin.ext ?_
  match b with
  | ⟨0, _⟩ => rfl
  | ⟨1, _⟩ => have h : c.val < 1 := c.isLt; show c.val = 0; omega

/-- The gather, at start indices of which the `k`-th, read signed, is `2k`, takes every second matrix. -/
theorem gather_eq {α : Type} (x : SIn.Idx → α) (idx : IVec SStart 32)
    (h : ∀ i : SOut.Idx, (idx (startOf i)).toInt.toNat = 2 * (i 0).val) :
    Host.gather (takeDims wf) x idx = everySecond x := by
  funext i
  unfold Host.gather everySecond
  congr 1
  have i0 : (i 0).val < 8 := (i 0).isLt
  refine eq_source ?_ ?_ ?_
  · show (takeDims wf).start i idx 0 + (takeDims wf).batchCoord i 0 + (takeDims wf).offCoord i 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl), siIdx_eq, h]
    show min (2 * (i 0).val) 15 + 0 + 0 = _
    omega
  · show (takeDims wf).start i idx 1 + (takeDims wf).batchCoord i 1 + (takeDims wf).offCoord i 1 = _
    rw [GatherDims.batchCoord_eq_zero _ _ _ List.not_mem_nil]
    unfold GatherDims.start
    rw [dif_neg (by decide : (1 : Fin 3) ∉ [0])]
    show 0 + 0 + (i 1).val = _
    omega
  · show (takeDims wf).start i idx 2 + (takeDims wf).batchCoord i 2 + (takeDims wf).offCoord i 2 = _
    rw [GatherDims.batchCoord_eq_zero _ _ _ List.not_mem_nil]
    unfold GatherDims.start
    rw [dif_neg (by decide : (2 : Fin 3) ∉ [0])]
    show 0 + 0 + (i 2).val = _
    omega

end Cert.Slice

end
-- ==== Proof.ReferenceValue.lean ====
/-
  What the reference leaves in its result array: every second matrix of its argument. The generated run has it as one
  term of the host operations; `taken_eq` reads that term.
-/
module

public import proofs.«01_k».proof.Proof.Gen.Reference.Run
public import proofs.«01_k».proof.Proof.Take

@[expose] public section

noncomputable section

namespace Cert.Reference.SliceValue

open Cert.Reference Cert.Reference.Gen Cert.Slice Idealize.ShloMosaic Idealize.ShloMosaic.TcCoe Idealize.SL.Sem

variable {F : FTy → Type} [FloatOps F]
variable (m : (ℓ : Loc nD τ sig) → Buf (Elt F) ℓ) (ρ : Dev nD → PrngReg)

/-- The table of indices, the negative ones brought into range, as the gather's start indices. -/
def starts : IVec S8x1 32 :=
  broadcastInDim S8x1 ![0] bcast_S8_S8x1_0 (select (cmpi .slt (fun i => lit0 (S8.rowMajor i)) (broadcastInDim S8 ![] bcast_S_S8 (constantI S_ 32 0#32)))
    (addi (fun i => lit0 (S8.rowMajor i)) (broadcastInDim S8 ![] bcast_S_S8 (constantI S_ 32 16#32))) (fun i => lit0 (S8.rowMajor i)))

/-- Where the start indices lie in `0 … 15`. -/
def inside : IVec S8x1 1 :=
  andi (cmpi .sge starts (broadcastInDim S8x1 ![] bcast_S_S8x1 (constantI S_ 32 0#32)))
    (cmpi .sle starts (broadcastInDim S8x1 ![0, 1] bcast_S1x1_S8x1_0_1 (broadcastInDim S1x1 ![1] bcast_S1_S1x1_1 (constantI S1 32 15#32))))

/-- The start index of row `k` is the word `2k`. -/
theorem starts_apply (j : S8x1.Idx) : starts j = BitVec.ofNat 32 (2 * (j 0).val) := by
  have h : ∀ (k : Fin 8), starts (fun a => match a with | ⟨0, _⟩ => k | ⟨1, _⟩ => (0 : Fin 1)) = BitVec.ofNat 32 (2 * k.val) := by
    decide +kernel
  have e : j = (fun a => match a with | ⟨0, _⟩ => (j 0 : Fin 8) | ⟨1, _⟩ => (0 : Fin 1)) := by
    funext a
    match a with
    | ⟨0, _⟩ => rfl
    | ⟨1, _⟩ => exact Subsingleton.elim (α := Fin 1) _ _
  rw [e]
  exact h _

/-- Every start index lies inside. -/
theorem inside_apply (j : S8x1.Idx) : inside j = 1#1 := by
  have key : ∀ k : Fin 8, IntOp.andi (IntOp.cmpi .sge (BitVec.ofNat 32 (2 * k.val)) 0#32)
      (IntOp.cmpi .sle (BitVec.ofNat 32 (2 * k.val)) 15#32) = 1#1 := by decide
  show IntOp.andi (IntOp.cmpi .sge (starts j) 0#32) (IntOp.cmpi .sle (starts j) 15#32) = 1#1
  rw [starts_apply]
  exact key (j 0)

/-- The reference's term: the gather, and `fill` where a start index lies outside — which none does. -/
theorem taken_eq {α : Type} (x : S16x2048x2048.Idx → α) (fill : S8x2048x2048.Idx → α) :
    select (broadcastInDim S8x2048x2048 ![0] bcast_S8_S8x2048x2048_0
        (Host.reduce IntOp.andi inside (constantI S_ 1 1#1) reducesTo_S8x1_S8_d1 h_S_))
      (Host.gather gather_S16x2048x2048_S8x1_S8x2048x2048_12_0_n_n_0_1_120482048 x starts) fill = everySecond x := by
  have key : ∀ k : Fin 8, (BitVec.ofNat 32 (2 * k.val)).toInt.toNat = 2 * k.val := by decide
  have hg : Host.gather gather_S16x2048x2048_S8x1_S8x2048x2048_12_0_n_n_0_1_120482048 x starts = everySecond x :=
    gather_eq x starts fun i => by rw [starts_apply]; exact key (i 0)
  have hm : Host.reduce IntOp.andi inside (constantI S_ 1 1#1) reducesTo_S8x1_S8_d1 h_S_ = fun _ => 1#1 :=
    funext fun j => Host.reduce_andi_one _ _ _ _ j rfl inside_apply
  rw [hg, hm]
  rfl

/-- The run of the reference, for any float values and from any memory: its result array ends at every second matrix of
    its argument, and the argument ends unchanged. -/
theorem run : θ_run defs (onTc (τ := τ) (main (F := F))) ⟨m, fun _ => 0, ρ⟩ fun r => ∀ c : Dev nD,
      r.2.mem ((c.tc : Thread nD τ).loc main_v0) = everySecond (m ((c.tc : Thread nD τ).loc main_arg0))
      ∧ r.2.mem ((c.tc : Thread nD τ).loc main_arg0) = m ((c.tc : Thread nD τ).loc main_arg0) :=
  (θ_run defs _ _).mono (fun _ h c => ⟨(h c).1.trans (taken_eq _ _), (h c).2⟩) (Value.run m ρ)

end Cert.Reference.SliceValue

end
-- ==== Proof.IdealValue.lean ====
/-
  The two runs at the ideal instance. No operation of either program is rewritten by its idealization, so each ideal
  program is the same program under another name, and its run is the run already proved, which holds for any float
  values.
-/
module

public import proofs.«01_k».proof.Proof.KernelValue
public import proofs.«01_k».proof.Proof.ReferenceValue
public import proofs.«01_k».proof.Proof.Gen.KernelIdeal.Value
public import proofs.«01_k».proof.Proof.Gen.ReferenceIdeal.Run
public import Idealize.ShloMosaic.Lib.Tactic

@[expose] public section

noncomputable section

open Idealize.ShloMosaic Idealize.ShloMosaic.TcCoe Idealize.ShloMosaic.Tactic Idealize.SL.Sem Cert.Slice

namespace Cert.KernelIdeal.SliceValue

open Cert.KernelIdeal

variable {F : FTy → Type} [FloatOps F]
variable (m : (ℓ : Loc nD τ sig) → Buf (Elt F) ℓ) (ρ : Dev nD → PrngReg)

/-- What is to be shown of the idealized kernel: it runs, its result array ends at every second matrix of its argument,
    and the argument ends unchanged. -/
abbrev Selects : Prop :=
  θ_run defs (onTc (τ := τ) (main (F := F))) ⟨m, fun _ => 0, ρ⟩ fun r => ∀ c : Dev nD,
    r.2.mem ((c : Thread nD τ).loc main_v0) = everySecond (m ((c : Thread nD τ).loc main_arg0))
    ∧ r.2.mem ((c : Thread nD τ).loc main_arg0) = m ((c : Thread nD τ).loc main_arg0)

/-- It is the statement about the kernel itself, the two programs being one. -/
theorem selects_eq : Selects m ρ =
    θ_run Kernel.defs (onTc (τ := Kernel.τ) (Kernel.main (F := F))) ⟨m, fun _ => 0, ρ⟩ fun r => ∀ c : Dev Kernel.nD,
      r.2.mem ((c : Thread Kernel.nD Kernel.τ).loc Kernel.main_v0) = Kernel.SliceValue.expected m c
      ∧ r.2.mem ((c : Thread Kernel.nD Kernel.τ).loc Kernel.main_arg0) = m ((c : Thread Kernel.nD Kernel.τ).loc Kernel.main_arg0) := by
  sl_kernel_rfl

/-- The run of the idealized kernel. -/
theorem run : Selects m ρ := (selects_eq m ρ).mpr (Kernel.SliceValue.run m ρ)

end Cert.KernelIdeal.SliceValue

namespace Cert.ReferenceIdeal.SliceValue

open Cert.ReferenceIdeal

variable {F : FTy → Type} [FloatOps F]
variable (m : (ℓ : Loc nD τ sig) → Buf (Elt F) ℓ) (ρ : Dev nD → PrngReg)

/-- The run of the idealized reference: its result array ends at every second matrix of its argument, and the argument
    ends unchanged. -/
theorem run : θ_run defs (onTc (τ := τ) (main (F := F))) ⟨m, fun _ => 0, ρ⟩ fun r => ∀ c : Dev nD,
      r.2.mem ((c : Thread nD τ).loc main_v0) = everySecond (m ((c : Thread nD τ).loc main_arg0))
      ∧ r.2.mem ((c : Thread nD τ).loc main_arg0) = m ((c : Thread nD τ).loc main_arg0) :=
  Cert.Reference.SliceValue.run m ρ

end Cert.ReferenceIdeal.SliceValue

end
-- ==== Proof.lean ====
/-
  The certificate: the kernel and the reference each leave every second matrix of the argument in the result array
  (Proof/KernelValue.lean, Proof/ReferenceValue.lean; at the ideal instance Proof/IdealValue.lean). Here the claims are
  put together from those four runs and the kernels' generated frames.
-/
module

public import proofs.«01_k».proof.Defs
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import proofs.«01_k».proof.Proof.KernelValue
public import proofs.«01_k».proof.Proof.ReferenceValue
public import proofs.«01_k».proof.Proof.IdealValue
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference runs, leaves its argument unchanged, and has no semaphore at all. -/
theorem frame_reference : Cert.quiescent_Reference := fun m ρ _ =>
  (θ_run Cert.Reference.defs _ _).mono (fun r h => ⟨fun c => (h c).2, sem_eq_zero_of_no_sems (by decide) r.2⟩)
    (Cert.Reference.SliceValue.run (F := Bits) m ρ)

/-- So does the idealized reference. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.SliceValue.run (F := Ideal) m ρ)

/-- Over the extended reals, kernel and reference end with one and the same array, every second matrix of the argument. -/
theorem algebraic : Cert.algebraic_KernelIdeal_ReferenceIdeal := fun m ρ m' ρ' _ hagree =>
  ⟨fun c => Cert.Slice.everySecond (m ((c : Thread Cert.KernelIdeal.nD Cert.KernelIdeal.τ).loc Cert.KernelIdeal.main_arg0)),
    Cert.KernelIdeal.SliceValue.run (F := Ideal) m ρ,
    (θ_run Cert.ReferenceIdeal.defs _ _).mono
      (fun _ h c => ⟨(h c).1.trans (congrArg Cert.Slice.everySecond (hagree c)), (h c).2⟩)
      (Cert.ReferenceIdeal.SliceValue.run (F := Ideal) m' ρ')⟩

/-- And they end with the same words, NaN payloads and signs of zero included. -/
theorem bitexact : Cert.bitexact_Kernel_Reference := fun m ρ m' ρ' _ hagree =>
  ⟨fun c => Cert.Slice.everySecond (m ((c : Thread Cert.Kernel.nD Cert.Kernel.τ).loc Cert.Kernel.main_arg0)),
    Cert.Kernel.SliceValue.run (F := Bits) m ρ,
    (θ_run Cert.Reference.defs _ _).mono
      (fun _ h c => ⟨(h c).1.trans (congrArg Cert.Slice.everySecond (hagree c)), (h c).2⟩)
      (Cert.Reference.SliceValue.run (F := Bits) m' ρ')⟩

theorem claim : Cert.Claim :=
  ⟨Cert.Kernel.Gen.facts, Cert.KernelIdeal.Gen.facts, Cert.ReferenceIdeal.Gen.facts, Cert.Reference.Gen.facts,
    fun m ρ _ => Cert.Kernel.Gen.frame m ρ, fun m ρ _ => Cert.KernelIdeal.Gen.frame m ρ,
    frame_reference_ideal, frame_reference, trivial, algebraic, bitexact⟩

end Cert.Proof

end
